-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows_sorted_bins [hPre_finite_rows_sorted_bins : Cert.Pre_finite_rows_sorted_bins.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows_sorted_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_rows_sorted_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows_sorted_bins [hPre_finite_rows_sorted_bins : Cert.Pre_finite_rows_sorted_bins.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows_sorted_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_rows_sorted_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_rows_sorted_bins [hKernelIdeal : Cert.KernelIdeal.Facts] [hPre_finite_rows_sorted_bins : Cert.Pre_finite_rows_sorted_bins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows_sorted_bins m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_rows_sorted_bins [hReferenceIdeal : Cert.ReferenceIdeal.Facts] [hPre_finite_rows_sorted_bins : Cert.Pre_finite_rows_sorted_bins.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows_sorted_bins m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_rows_sorted_bins [hKernelIdeal : Cert.KernelIdeal.Facts] [hReferenceIdeal : Cert.ReferenceIdeal.Facts] [hPre_finite_rows_sorted_bins : Cert.Pre_finite_rows_sorted_bins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows_sorted_bins m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_rows_sorted_bins : Cert.Pre_finite_rows_sorted_bins.Facts),
    quiescent_Kernel (hKernel := hKernel)
    ∧ quiescent_KernelIdeal (hKernelIdeal := hKernelIdeal)
    ∧ quiescent_KernelIdeal_pre_finite_rows_sorted_bins (hKernelIdeal := hKernelIdeal) (hPre_finite_rows_sorted_bins := hPre_finite_rows_sorted_bins)
    ∧ quiescent_ReferenceIdeal (hReferenceIdeal := hReferenceIdeal)
    ∧ quiescent_ReferenceIdeal_pre_finite_rows_sorted_bins (hReferenceIdeal := hReferenceIdeal) (hPre_finite_rows_sorted_bins := hPre_finite_rows_sorted_bins)
    ∧ preserves_Kernel_KernelIdeal
    ∧ algebraic_KernelIdeal_ReferenceIdeal_pre_finite_rows_sorted_bins (hKernelIdeal := hKernelIdeal) (hReferenceIdeal := hReferenceIdeal) (hPre_finite_rows_sorted_bins := hPre_finite_rows_sorted_bins)
-- ==== Pre_finite_rows_sorted_bins.lean ====
abbrev S16384x66 : Shape := ⟨2, ![16384, 66]⟩
abbrev S16384 : Shape := ⟨1, ![16384]⟩
abbrev S65 : Shape := ⟨1, ![65]⟩
abbrev S_ : Shape := ⟨0, ![]⟩
abbrev S64 : Shape := ⟨1, ![64]⟩

class Facts : Prop where
  reducesTo_S16384x66_S16384_d1 : S16384x66.ReducesTo [1] S16384
  h_S_ : 0 < S_.numel
  bcast_S_S16384 : S_.BroadcastsInDim S16384 (![] : Fin 0 → Fin S16384.rank)
  slices_S65_S64_1 : S65.Slices ![1] S64
  slices_S65_S64_0 : S65.Slices ![0] S64

variable [Facts]

def fn {F : FTy → Type} [FloatOps F] (main_arg0 : FVec F S16384x66 .f32) (main_arg1 : FVec F S16384 .f32) (main_arg2 : FVec F S65 .f32) : IVec S16384 1 × IVec S64 1 :=
  let main_cst : FVec F S_ .f32 := constant S_ .f32 0xFF800000#32
  let main_v0 : FVec F S16384 .f32 := (fun x v => Host.reduce FloatOps.maximumf x v reducesTo_S16384x66_S16384_d1 h_S_) main_arg0 main_cst
  let main_v1 : FVec F S16384 .f32 := Host.absf main_v0
  let main_cst_0 : FVec F S_ .f32 := constant S_ .f32 0x7F800000#32
  let main_v2 : FVec F S16384 .f32 := broadcastInDim S16384 ![] bcast_S_S16384 main_cst_0
  let main_v3 : IVec S16384 1 := cmpf .olt main_v1 main_v2
  let main_v4 : FVec F S64 .f32 := (extractStridedSlice S64 ![1] · slices_S65_S64_1) main_arg2
  let main_v5 : FVec F S64 .f32 := (extractStridedSlice S64 ![0] · slices_S65_S64_0) main_arg2
  let main_v6 : IVec S64 1 := cmpf .oge main_v4 main_v5
  (main_v3, main_v6)
-- ==== Kernel.lean ====
abbrev S16384x66 : Shape := ⟨2, ![16384, 66]⟩
abbrev S16384 : Shape := ⟨1, ![16384]⟩
abbrev S65 : Shape := ⟨1, ![65]⟩
abbrev S66x16384 : Shape := ⟨2, ![66, 16384]⟩
abbrev S64x16384 : Shape := ⟨2, ![64, 16384]⟩
abbrev S2x16384 : Shape := ⟨2, ![2, 16384]⟩
abbrev S1x16384 : Shape := ⟨2, ![1, 16384]⟩
abbrev S65x1 : Shape := ⟨2, ![65, 1]⟩
abbrev S1x1 : Shape := ⟨2, ![1, 1]⟩
abbrev S64x4096 : Shape := ⟨2, ![64, 4096]⟩
abbrev S2x4096 : Shape := ⟨2, ![2, 4096]⟩
abbrev S1x4096 : Shape := ⟨2, ![1, 4096]⟩
abbrev S4096 : Shape := ⟨1, ![4096]⟩
abbrev S65x4096 : Shape := ⟨2, ![65, 4096]⟩
abbrev S1x1x4096 : Shape := ⟨3, ![1, 1, 4096]⟩
abbrev S1 : Shape := ⟨1, ![1]⟩
abbrev S1x1x1 : Shape := ⟨3, ![1, 1, 1]⟩

abbrev nBuf : Space → Nat
  | .hbm => 10
  | .vmem => 7
  | .smem => 1
  | _ => 0

abbrev bufTy : (tb : Table) → Fin (tcTables nBuf tb) → BufTy
  | .hbm, ⟨0, _⟩ => ⟨S16384x66, .f32⟩
  | .hbm, ⟨1, _⟩ => ⟨S16384, .f32⟩
  | .hbm, ⟨2, _⟩ => ⟨S65, .f32⟩
  | .hbm, ⟨3, _⟩ => ⟨S66x16384, .f32⟩
  | .hbm, ⟨4, _⟩ => ⟨S66x16384, .bf16⟩
  | .hbm, ⟨5, _⟩ => ⟨S64x16384, .bf16⟩
  | .hbm, ⟨6, _⟩ => ⟨S2x16384, .bf16⟩
  | .hbm, ⟨7, _⟩ => ⟨S1x16384, .f32⟩
  | .hbm, ⟨8, _⟩ => ⟨S65x1, .f32⟩
  | .hbm, ⟨9, _⟩ => ⟨S1x1, .f32⟩
  | .local _ .vmem, ⟨0, _⟩ => ⟨S64x4096, .bf16⟩
  | .local _ .vmem, ⟨1, _⟩ => ⟨S64x4096, .bf16⟩
  | .local _ .vmem, ⟨2, _⟩ => ⟨S2x4096, .bf16⟩
  | .local _ .vmem, ⟨3, _⟩ => ⟨S2x4096, .bf16⟩
  | .local _ .vmem, ⟨4, _⟩ => ⟨S1x4096, .f32⟩
  | .local _ .vmem, ⟨5, _⟩ => ⟨S1x4096, .f32⟩
  | .local _ .vmem, ⟨6, _⟩ => ⟨S65x1, .f32⟩
  | .local _ .smem, ⟨0, _⟩ => ⟨S1x1, .f32⟩
  | _, _ => ⟨S16384x66, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S65x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16384x66 : Shape := ⟨2, ![16384, 66]⟩
abbrev S16384 : Shape := ⟨1, ![16384]⟩
abbrev S65 : Shape := ⟨1, ![65]⟩
abbrev S_ : Shape := ⟨0, ![]⟩
abbrev S64 : Shape := ⟨1, ![64]⟩
abbrev S1x64 : Shape := ⟨2, ![1, 64]⟩
abbrev S16384x1 : Shape := ⟨2, ![16384, 1]⟩
abbrev S16384x64 : Shape := ⟨2, ![16384, 64]⟩
abbrev S16384x2 : Shape := ⟨2, ![16384, 2]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S16384x66, .f32⟩
  | .hbm, ⟨1, _⟩ => ⟨S16384, .f32⟩
  | .hbm, ⟨2, _⟩ => ⟨S65, .f32⟩
  | .hbm, ⟨3, _⟩ => ⟨S_, .f32⟩
  | .hbm, ⟨4, _⟩ => ⟨S16384, .f32⟩
  | .hbm, ⟨5, _⟩ => ⟨S16384, .i1⟩
  | .hbm, ⟨6, _⟩ => ⟨S_, .f32⟩
  | .hbm, ⟨7, _⟩ => ⟨S16384, .f32⟩
  | .hbm, ⟨8, _⟩ => ⟨S16384, .i1⟩
  | .hbm, ⟨9, _⟩ => ⟨S16384, .i1⟩
  | .hbm, ⟨10, _⟩ => ⟨S64, .f32⟩
  | .hbm, ⟨11, _⟩ => ⟨S1x64, .f32⟩
  | .hbm, ⟨12, _⟩ => ⟨S16384x1, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S16384x64, .f32⟩
  | .hbm, ⟨18, _⟩ => ⟨S16384x64, .f32⟩
  | .hbm, ⟨19, _⟩ => ⟨S_, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x64, .i1⟩
  | .hbm, ⟨26, _⟩ => ⟨S16384x64, .f32⟩
  | .hbm, ⟨27, _⟩ => ⟨S_, .f32⟩
  | .hbm, ⟨28, _⟩ => ⟨S16384x64, .f32⟩
  | .hbm, ⟨29, _⟩ => ⟨S16384x64, .f32⟩
  | .hbm, ⟨30, _⟩ => ⟨S_, .f32⟩
  | .hbm, ⟨31, _⟩ => ⟨S16384x64, .f32⟩
  | .hbm, ⟨32, _⟩ => ⟨S16384x64, .i1⟩
  | .hbm, ⟨33, _⟩ => ⟨S16384x64, .f32⟩
  | .hbm, ⟨34, _⟩ => ⟨S_, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S16384x64, .f32⟩
  | .hbm, ⟨40, _⟩ => ⟨S_, .f32⟩
  | .hbm, ⟨41, _⟩ => ⟨S16384x64, .f32⟩
  | .hbm, ⟨42, _⟩ => ⟨S16384x64, .f32⟩
  | .hbm, ⟨43, _⟩ => ⟨S64, .f32⟩
  | .hbm, ⟨44, _⟩ => ⟨S1x64, .f32⟩
  | .hbm, ⟨45, _⟩ => ⟨S16384x1, .f32⟩
  | .hbm, ⟨46, _⟩ => ⟨S16384x64, .f32⟩
  | .hbm, ⟨47, _⟩ => ⟨S16384x64, .f32⟩
  | .hbm, ⟨48, _⟩ => ⟨S16384x64, .f32⟩
  | .hbm, ⟨49, _⟩ => ⟨S_, .f32⟩
  | .hbm, ⟨50, _⟩ => ⟨S16384x64, .f32⟩
  | .hbm, ⟨51, _⟩ => ⟨S16384x64, .f32⟩
  | .hbm, ⟨52, _⟩ => ⟨S_, .f32⟩
  | .hbm, ⟨53, _⟩ => ⟨S16384x64, .f32⟩
  | .hbm, ⟨54, _⟩ => ⟨S16384x64, .f32⟩
  | .hbm, ⟨55, _⟩ => ⟨S16384x64, .f32⟩
  | .hbm, ⟨56, _⟩ => ⟨S_, .f32⟩
  | .hbm, ⟨57, _⟩ => ⟨S16384x64, .f32⟩
  | .hbm, ⟨58, _⟩ => ⟨S16384x64, .i1⟩
  | .hbm, ⟨59, _⟩ => ⟨S16384x64, .f32⟩
  | .hbm, ⟨60, _⟩ => ⟨S_, .f32⟩
  | .hbm, ⟨61, _⟩ => ⟨S16384x64, .f32⟩
  | .hbm, ⟨62, _⟩ => ⟨S16384x64, .f32⟩
  | .hbm, ⟨63, _⟩ => ⟨S_, .f32⟩
  | .hbm, ⟨64, _⟩ => ⟨S16384x64, .f32⟩
  | .hbm, ⟨65, _⟩ => ⟨S16384x64, .i1⟩
  | .hbm, ⟨66, _⟩ => ⟨S16384x64, .f32⟩
  | .hbm, ⟨67, _⟩ => ⟨S_, .f32⟩
  | .hbm, ⟨68, _⟩ => ⟨S16384x64, .f32⟩
  | .hbm, ⟨69, _⟩ => ⟨S16384x64, .f32⟩
  | .hbm, ⟨70, _⟩ => ⟨S16384x64, .f32⟩
  | .hbm, ⟨71, _⟩ => ⟨S16384x64, .f32⟩
  | .hbm, ⟨72, _⟩ => ⟨S16384x64, .f32⟩
  | .hbm, ⟨73, _⟩ => ⟨S_, .f32⟩
  | .hbm, ⟨74, _⟩ => ⟨S16384x64, .f32⟩
  | .hbm, ⟨75, _⟩ => ⟨S16384x64, .f32⟩
  | .hbm, ⟨76, _⟩ => ⟨S16384x64, .f32⟩
  | .hbm, ⟨77, _⟩ => ⟨S16384x1, .i1⟩
  | .hbm, ⟨78, _⟩ => ⟨S_, .f32⟩
  | .hbm, ⟨79, _⟩ => ⟨S_, .f32⟩
  | .hbm, ⟨80, _⟩ => ⟨S16384x64, .i1⟩
  | .hbm, ⟨81, _⟩ => ⟨S16384x64, .f32⟩
  | .hbm, ⟨82, _⟩ => ⟨S16384x64, .f32⟩
  | .hbm, ⟨83, _⟩ => ⟨S16384x1, .i1⟩
  | .hbm, ⟨84, _⟩ => ⟨S16384x1, .i1⟩
  | .hbm, ⟨85, _⟩ => ⟨S16384x2, .i1⟩
  | .hbm, ⟨86, _⟩ => ⟨S16384x2, .f32⟩
  | .hbm, ⟨87, _⟩ => ⟨S16384x66, .f32⟩
  | .hbm, ⟨88, _⟩ => ⟨S16384x66, .f32⟩
  | .hbm, ⟨89, _⟩ => ⟨S_, .f32⟩
  | .hbm, ⟨90, _⟩ => ⟨S16384x66, .f32⟩
  | .hbm, ⟨91, _⟩ => ⟨S16384x66, .i1⟩
  | .hbm, ⟨92, _⟩ => ⟨S_, .f32⟩
  | .hbm, ⟨93, _⟩ => ⟨S_, .f32⟩
  | .hbm, ⟨94, _⟩ => ⟨S16384x66, .f32⟩
  | .hbm, ⟨95, _⟩ => ⟨S16384x66, .f32⟩
  | .hbm, ⟨96, _⟩ => ⟨S_, .f32⟩
  | .hbm, ⟨97, _⟩ => ⟨S16384, .f32⟩
  | .hbm, ⟨98, _⟩ => ⟨S_, .f32⟩
  | .hbm, ⟨99, _⟩ => ⟨S16384, .f32⟩
  | .hbm, ⟨100, _⟩ => ⟨S16384, .f32⟩
  | .hbm, ⟨101, _⟩ => ⟨S16384x1, .f32⟩
  | .hbm, ⟨102, _⟩ => ⟨S16384x66, .f32⟩
  | .hbm, ⟨103, _⟩ => ⟨S16384x66, .f32⟩
  | .hbm, ⟨104, _⟩ => ⟨S16384x66, .f32⟩
  | .hbm, ⟨105, _⟩ => ⟨S_, .f32⟩
  | .hbm, ⟨106, _⟩ => ⟨S16384, .f32⟩
  | .hbm, ⟨107, _⟩ => ⟨S16384x1, .f32⟩
  | .hbm, ⟨108, _⟩ => ⟨S16384x1, .f32⟩
  | .hbm, ⟨109, _⟩ => ⟨S16384x66, .f32⟩
  | .hbm, ⟨110, _⟩ => ⟨S16384x66, .f32⟩
  | .hbm, ⟨111, _⟩ => ⟨S16384x66, .f32⟩
  | .hbm, ⟨112, _⟩ => ⟨S_, .f32⟩
  | .hbm, ⟨113, _⟩ => ⟨S16384, .f32⟩
  | .hbm, ⟨114, _⟩ => ⟨S16384, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S1x1, .f32⟩
  | _, _ => ⟨S16384x66, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_15 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_call1_v0 : Ref sig .tc := ⟨.hbm, 93, rfl⟩
abbrev main_call1_v1 : Ref sig .tc := ⟨.hbm, 94, rfl⟩
abbrev main_v68 : Ref sig .tc := ⟨.hbm, 95, rfl⟩
abbrev main_call2_cst : Ref sig .tc := ⟨.hbm, 96, rfl⟩
abbrev main_call2_v0 : Ref sig .tc := ⟨.hbm, 97, rfl⟩
abbrev main_call2_cst_0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_cst_1 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_v69 : Ref sig .tc := ⟨.hbm, 110, rfl⟩
abbrev main_v70 : Ref sig .tc := ⟨.hbm, 111, rfl⟩
abbrev main_cst_18 : Ref sig .tc := ⟨.hbm, 112, rfl⟩
abbrev main_v71 : Ref sig .tc := ⟨.hbm, 113, rfl⟩
abbrev main_v72 : Ref sig .tc := ⟨.hbm, 114, rfl⟩
abbrev main_cst_19 : Ref sig .tc := ⟨.hbm, 115, rfl⟩
abbrev main_v73 : Ref sig .tc := ⟨.hbm, 116, rfl⟩
abbrev main_cst_20 : Ref sig .tc := ⟨.hbm, 117, rfl⟩
abbrev main_v74 : Ref sig .tc := ⟨.hbm, 118, rfl⟩
abbrev main_v75 : Ref sig .tc := ⟨.hbm, 119, rfl⟩

abbrev nD : Nat := 1
abbrev τ : Topo := Topo.v7x

variable {F : FTy → Type} [FloatOps F]
-- ==== Proof.Gauss.lean ====
/-
  The Gaussian integral from zero is at most half the square root of pi, by the classical constant: the square of
  the integral up to `x`, plus the integral over the unit interval of `exp (-(x² (1 + t²))) / (1 + t²)`, has
  derivative zero in `x`, and at `x = 0` it is the arc tangent of one. The few derivatives this takes (of the sine
  and cosine, of the arc tangent, of an integral in its upper end and in a parameter) are all read off one lemma: a
  function within a multiple of `u²` of its linear part is differentiable.
-/
module

public import Mathlib.MeasureTheory.Integral.IntervalIntegral.Basic
public import Mathlib.Analysis.SpecialFunctions.Trigonometric.Arctan
public import Mathlib.Analysis.Calculus.MeanValue
public import Mathlib.Analysis.SpecialFunctions.ExpDeriv
public import Mathlib.Analysis.Calculus.Deriv.Inv
public import Mathlib.Analysis.Calculus.Deriv.Inverse

@[expose] public section

noncomputable section

namespace Cert.Proof.Gauss

open MeasureTheory

/-- A function that is within a multiple of `u²` of its linear part has that derivative. -/
theorem deriv_of_quadratic {f : ℝ → ℝ} {f' x : ℝ} (C : ℝ)
    (h : ∀ u : ℝ, |u| ≤ 1 / 2 → |f (x + u) - f x - u * f'| ≤ C * u ^ 2) : HasDerivAt f f' x := by
  rw [hasDerivAt_iff_isLittleO_nhds_zero]
  refine Asymptotics.IsBigO.trans_isLittleO (g := fun u : ℝ => u ^ 2) ?_
    (Asymptotics.isLittleO_pow_id (by norm_num))
  refine Asymptotics.IsBigO.of_bound C ?_
  filter_upwards [Metric.ball_mem_nhds (0 : ℝ) (by norm_num : (0 : ℝ) < 1 / 2)] with u hu
  have hu' : |u| ≤ 1 / 2 := by
    have : |u| < 1 / 2 := by simpa [Metric.mem_ball, Real.dist_eq] using hu
    exact this.le
  have := h u hu'
  simpa [Real.norm_eq_abs, abs_of_nonneg (sq_nonneg u)] using this

theorem abs_sin_sub_le {u : ℝ} (hu : |u| ≤ 1 / 2) : |Real.sin u - u| ≤ u ^ 2 := by
  have h1 : |u| ≤ 1 := hu.trans (by norm_num)
  have h := abs_le.1 (Real.sin_bound h1)
  have h5 : |u| ^ 5 / 100 ≤ u ^ 2 / 100 := by
    have : |u| ^ 5 ≤ |u| ^ 2 := pow_le_pow_of_le_one (abs_nonneg u) h1 (by norm_num)
    rw [sq_abs] at this
    linarith
  have hl := abs_le.1 hu
  have h3 : |u ^ 3| ≤ u ^ 2 := by
    rw [abs_pow, ← sq_abs u]
    exact pow_le_pow_of_le_one (abs_nonneg u) h1 (by norm_num)
  have h3' := abs_le.1 h3
  have := sq_nonneg u
  exact abs_le.2 ⟨by linarith [h.1], by linarith [h.2]⟩

theorem abs_cos_sub_le {u : ℝ} (hu : |u| ≤ 1 / 2) : |Real.cos u - 1| ≤ u ^ 2 := by
  have h1 : |u| ≤ 1 := hu.trans (by norm_num)
  have h := abs_le.1 (Real.cos_bound h1)
  have h4 : |u| ^ 4 * (5 / 96) ≤ u ^ 2 * (5 / 96) := by
    have : |u| ^ 4 ≤ |u| ^ 2 := pow_le_pow_of_le_one (abs_nonneg u) h1 (by norm_num)
    rw [sq_abs] at this
    linarith
  have := sq_nonneg u
  exact abs_le.2 ⟨by linarith [h.1], by linarith [h.2]⟩

theorem sin_deriv (x : ℝ) : HasDerivAt Real.sin (Real.cos x) x := by
  refine deriv_of_quadratic 2 fun u hu => ?_
  have e : Real.sin (x + u) - Real.sin x - u * Real.cos x
      = Real.sin x * (Real.cos u - 1) + Real.cos x * (Real.sin u - u) := by
    rw [Real.sin_add]; ring
  rw [e]
  refine (abs_add_le _ _).trans ?_
  rw [abs_mul, abs_mul]
  have a := mul_le_mul (Real.abs_sin_le_one x) (abs_cos_sub_le hu) (abs_nonneg _) zero_le_one
  have b := mul_le_mul (Real.abs_cos_le_one x) (abs_sin_sub_le hu) (abs_nonneg _) zero_le_one
  linarith

theorem cos_deriv (x : ℝ) : HasDerivAt Real.cos (-Real.sin x) x := by
  refine deriv_of_quadratic 2 fun u hu => ?_
  have e : Real.cos (x + u) - Real.cos x - u * -Real.sin x
      = Real.cos x * (Real.cos u - 1) - Real.sin x * (Real.sin u - u) := by
    rw [Real.cos_add]; ring
  rw [e]
  refine (abs_sub _ _).trans ?_
  rw [abs_mul, abs_mul]
  have a := mul_le_mul (Real.abs_cos_le_one x) (abs_cos_sub_le hu) (abs_nonneg _) zero_le_one
  have b := mul_le_mul (Real.abs_sin_le_one x) (abs_sin_sub_le hu) (abs_nonneg _) zero_le_one
  linarith

theorem tan_deriv {x : ℝ} (hx : Real.cos x ≠ 0) : HasDerivAt Real.tan (1 / Real.cos x ^ 2) x := by
  have h := (sin_deriv x).mul ((cos_deriv x).inv hx)
  have e : Real.tan = Real.sin * (Real.cos)⁻¹ := by
    funext y; rw [Real.tan_eq_sin_div_cos, div_eq_mul_inv]; rfl
  rw [e]
  refine h.congr_deriv ?_
  have := Real.sin_sq_add_cos_sq x
  simp only [Pi.inv_apply]
  field_simp
  linarith

theorem arctan_deriv (x : ℝ) : HasDerivAt Real.arctan (1 / (1 + x ^ 2)) x := by
  have hc : Real.cos (Real.arctan x) ≠ 0 := (Real.cos_arctan_pos x).ne'
  have h := HasDerivAt.of_local_left_inverse (f := Real.tan) (g := Real.arctan) (a := x)
    Real.continuous_arctan.continuousAt (tan_deriv hc) (by positivity)
    (Filter.Eventually.of_forall fun y => Real.tan_arctan y)
  refine h.congr_deriv ?_
  rw [Real.cos_sq_arctan]
  field_simp

/-- An integral's derivative in its upper end, for an integrand no steeper than the square function. -/
theorem primitive_deriv {f : ℝ → ℝ} (hf : Continuous f) (hL : ∀ s t : ℝ, |f s - f t| ≤ |s ^ 2 - t ^ 2|) (x : ℝ) :
    HasDerivAt (fun y : ℝ => ∫ t in (0 : ℝ)..y, f t) (f x) x := by
  refine deriv_of_quadratic (2 * |x| + 1) fun u hu => ?_
  have hI : ∀ a b : ℝ, IntervalIntegrable f volume a b := fun a b => hf.intervalIntegrable a b
  have e : (∫ t in (0 : ℝ)..(x + u), f t) - (∫ t in (0 : ℝ)..x, f t) - u * f x
      = ∫ t in x..(x + u), (f t - f x) := by
    rw [intervalIntegral.integral_interval_sub_left (hI _ _) (hI _ _),
      intervalIntegral.integral_sub (hI _ _) (continuous_const.intervalIntegrable _ _), intervalIntegral.integral_const]
    simp
  rw [e, ← Real.norm_eq_abs]
  have hb : ∀ t ∈ Set.uIoc x (x + u), ‖f t - f x‖ ≤ (2 * |x| + 1) * |u| := by
    intro t ht
    rw [Real.norm_eq_abs]
    refine (hL t x).trans ?_
    have h1 : |t - x| ≤ |u| := by
      have := Set.abs_sub_left_of_mem_uIcc (Set.uIoc_subset_uIcc ht)
      simpa using this
    have h2 : |t + x| ≤ 2 * |x| + 1 := by
      have e2 : t + x = (t - x) + 2 * x := by ring
      rw [e2]
      refine (abs_add_le _ _).trans ?_
      rw [abs_mul, abs_two]
      linarith
    have e3 : t ^ 2 - x ^ 2 = (t + x) * (t - x) := by ring
    rw [e3, abs_mul]
    exact mul_le_mul h2 h1 (abs_nonneg _) (by positivity)
  refine (intervalIntegral.norm_integral_le_of_norm_le_const hb).trans ?_
  rw [add_sub_cancel_left, mul_assoc, ← abs_mul, abs_mul_self, sq]

theorem exp_neg_lipschitz {a b : ℝ} (ha : 0 ≤ a) (hb : 0 ≤ b) : |Real.exp (-a) - Real.exp (-b)| ≤ |a - b| := by
  wlog hab : a ≤ b generalizing a b
  · rw [abs_sub_comm, abs_sub_comm a b]
    exact this hb ha (le_of_not_ge hab)
  have h1 : Real.exp (-b) ≤ Real.exp (-a) := Real.exp_le_exp.2 (by linarith)
  have h2 : Real.exp (-a) ≤ 1 := Real.exp_le_one_iff.2 (by linarith)
  have h3 : a - b + 1 ≤ Real.exp (a - b) := Real.add_one_le_exp _
  have h4 : Real.exp (-b) = Real.exp (-a) * Real.exp (a - b) := by rw [← Real.exp_add]; congr 1; ring
  have h5 : Real.exp (a - b) ≤ 1 := Real.exp_le_one_iff.2 (by linarith)
  rw [abs_of_nonneg (by linarith), abs_of_nonpos (by linarith)]
  have h6 := mul_le_mul_of_nonneg_right h2 (by linarith : 0 ≤ 1 - Real.exp (a - b))
  nlinarith

/-- The Gaussian. -/
def g (t : ℝ) : ℝ := Real.exp (-(t ^ 2))

theorem g_continuous : Continuous g := by unfold g; fun_prop

theorem g_lipschitz (s t : ℝ) : |g s - g t| ≤ |s ^ 2 - t ^ 2| := exp_neg_lipschitz (sq_nonneg s) (sq_nonneg t)

/-- The integral of the Gaussian from zero. -/
def E (x : ℝ) : ℝ := ∫ t in (0 : ℝ)..x, g t

theorem E_deriv (x : ℝ) : HasDerivAt E (g x) x := primitive_deriv g_continuous g_lipschitz x

/-- The derivative of the arc tangent. -/
def w (t : ℝ) : ℝ := 1 / (1 + t ^ 2)

theorem w_continuous : Continuous w := by
  unfold w
  exact continuous_const.div (by fun_prop) fun t => by positivity

theorem w_lipschitz (s t : ℝ) : |w s - w t| ≤ |s ^ 2 - t ^ 2| := by
  unfold w
  have hs : 1 ≤ 1 + s ^ 2 := by nlinarith [sq_nonneg s]
  have ht : 1 ≤ 1 + t ^ 2 := by nlinarith [sq_nonneg t]
  have e : 1 / (1 + s ^ 2) - 1 / (1 + t ^ 2) = -(s ^ 2 - t ^ 2) / ((1 + s ^ 2) * (1 + t ^ 2)) := by
    field_simp; ring
  rw [e, abs_div, abs_neg]
  refine div_le_self (abs_nonneg _) ?_
  rw [abs_of_pos (by positivity)]
  nlinarith

/-- The arc tangent is the integral of its derivative; at one it is a quarter of pi. -/
theorem integral_w : ∫ t in (0 : ℝ)..1, w t = Real.pi / 4 := by
  have hd : ∀ x, HasDerivAt (fun y : ℝ => (∫ t in (0 : ℝ)..y, w t) - Real.arctan y) (w x - 1 / (1 + x ^ 2)) x :=
    fun x => (primitive_deriv w_continuous w_lipschitz x).sub (arctan_deriv x)
  have h := is_const_of_deriv_eq_zero (fun x => (hd x).differentiableAt)
    (fun x => by rw [(hd x).deriv]; unfold w; ring) 1 0
  simp only [intervalIntegral.integral_same, Real.arctan_zero, Real.arctan_one] at h
  linarith

/-- The companion integral. -/
def K (a : ℝ) : ℝ := ∫ t in (0 : ℝ)..1, Real.exp (-(a * (1 + t ^ 2))) * w t

theorem K_deriv (a : ℝ) : HasDerivAt K (-∫ t in (0 : ℝ)..1, Real.exp (-(a * (1 + t ^ 2)))) a := by
  refine deriv_of_quadratic (2 * Real.exp (2 * |a|)) fun u hu => ?_
  have c1 : ∀ b : ℝ, Continuous fun t : ℝ => Real.exp (-(b * (1 + t ^ 2))) := fun b => by fun_prop
  have c2 : ∀ b : ℝ, Continuous fun t : ℝ => Real.exp (-(b * (1 + t ^ 2))) * w t := fun b => (c1 b).mul w_continuous
  have e : K (a + u) - K a - u * -(∫ t in (0 : ℝ)..1, Real.exp (-(a * (1 + t ^ 2))))
      = ∫ t in (0 : ℝ)..1, (Real.exp (-((a + u) * (1 + t ^ 2))) * w t - Real.exp (-(a * (1 + t ^ 2))) * w t
          + u * Real.exp (-(a * (1 + t ^ 2)))) := by
    have i2 : ∀ b : ℝ, IntervalIntegrable (fun t : ℝ => Real.exp (-(b * (1 + t ^ 2))) * w t) volume 0 1 :=
      fun b => (c2 b).intervalIntegrable _ _
    have i3 : IntervalIntegrable (fun t : ℝ => u * Real.exp (-(a * (1 + t ^ 2)))) volume 0 1 :=
      (continuous_const.mul (c1 a)).intervalIntegrable _ _
    have i4 : IntervalIntegrable (fun t : ℝ => Real.exp (-((a + u) * (1 + t ^ 2))) * w t
        - Real.exp (-(a * (1 + t ^ 2))) * w t) volume 0 1 := (i2 _).sub (i2 _)
    rw [intervalIntegral.integral_add i4 i3, intervalIntegral.integral_sub (i2 _) (i2 _),
      intervalIntegral.integral_const_mul]
    unfold K
    ring
  rw [e, ← Real.norm_eq_abs]
  have hb : ∀ t ∈ Set.uIoc (0 : ℝ) 1, ‖Real.exp (-((a + u) * (1 + t ^ 2))) * w t
      - Real.exp (-(a * (1 + t ^ 2))) * w t + u * Real.exp (-(a * (1 + t ^ 2)))‖
      ≤ 2 * Real.exp (2 * |a|) * u ^ 2 := by
    intro t ht
    rw [Set.uIoc_of_le zero_le_one] at ht
    obtain ⟨ht0, ht1⟩ := ht
    have ht2 : t ^ 2 ≤ 1 := by nlinarith
    have hc0 : 0 < 1 + t ^ 2 := by positivity
    have hc2 : 1 + t ^ 2 ≤ 2 := by linarith
    have e1 : Real.exp (-((a + u) * (1 + t ^ 2))) = Real.exp (-(a * (1 + t ^ 2))) * Real.exp (-(u * (1 + t ^ 2))) := by
      rw [← Real.exp_add]; congr 1; ring
    have e2 : Real.exp (-((a + u) * (1 + t ^ 2))) * w t - Real.exp (-(a * (1 + t ^ 2))) * w t
        + u * Real.exp (-(a * (1 + t ^ 2)))
        = Real.exp (-(a * (1 + t ^ 2))) * w t
          * (Real.exp (-(u * (1 + t ^ 2))) - 1 - -(u * (1 + t ^ 2))) := by
      have hw : w t * (1 + t ^ 2) = 1 := by unfold w; field_simp
      rw [e1]
      linear_combination (-(u * Real.exp (-(a * (1 + t ^ 2))))) * hw
    have habs : |-(u * (1 + t ^ 2))| ≤ 1 := by
      rw [abs_neg, abs_mul, abs_of_pos hc0]
      nlinarith [abs_nonneg u]
    have hq := Real.abs_exp_sub_one_sub_id_le habs
    have hexp : Real.exp (-(a * (1 + t ^ 2))) ≤ Real.exp (2 * |a|) := by
      refine Real.exp_le_exp.2 ?_
      have := neg_abs_le a
      nlinarith [abs_nonneg a]
    rw [e2, Real.norm_eq_abs, abs_mul, abs_mul, Real.abs_exp]
    have hw0 : |w t| = 1 / (1 + t ^ 2) := by unfold w; rw [abs_of_pos (by positivity)]
    rw [hw0]
    have hq2 : 1 / (1 + t ^ 2) * |Real.exp (-(u * (1 + t ^ 2))) - 1 - -(u * (1 + t ^ 2))| ≤ 2 * u ^ 2 := by
      have h1 : 1 / (1 + t ^ 2) * |Real.exp (-(u * (1 + t ^ 2))) - 1 - -(u * (1 + t ^ 2))|
          ≤ 1 / (1 + t ^ 2) * (-(u * (1 + t ^ 2))) ^ 2 := mul_le_mul_of_nonneg_left hq (by positivity)
      have h2 : 1 / (1 + t ^ 2) * (-(u * (1 + t ^ 2))) ^ 2 = (1 + t ^ 2) * u ^ 2 := by field_simp
      have h3 : (1 + t ^ 2) * u ^ 2 ≤ 2 * u ^ 2 := mul_le_mul_of_nonneg_right hc2 (sq_nonneg u)
      linarith
    rw [mul_assoc]
    calc _ ≤ Real.exp (2 * |a|) * (2 * u ^ 2) := mul_le_mul hexp hq2 (by positivity) (Real.exp_pos _).le
      _ = _ := by ring
  refine (intervalIntegral.norm_integral_le_of_norm_le_const hb).trans ?_
  simp

/-- The square of the Gaussian's integral and the companion integral add up to a constant, a quarter of pi. -/
theorem E_sq_add_K (x : ℝ) : E x ^ 2 + K (x ^ 2) = Real.pi / 4 := by
  have hd : ∀ y, HasDerivAt (fun y : ℝ => E y * E y + K (y ^ 2)) 0 y := by
    intro y
    have hsq : HasDerivAt (fun z : ℝ => z ^ 2) (2 * y) y :=
      deriv_of_quadratic 1 fun u _ => le_of_eq (by
        rw [show (y + u) ^ 2 - y ^ 2 - u * (2 * y) = u ^ 2 by ring, abs_of_nonneg (sq_nonneg u), one_mul])
    have hK := HasDerivAt.comp (h₂ := K) (h := fun z : ℝ => z ^ 2) y (K_deriv (y ^ 2)) hsq
    have h := ((E_deriv y).mul (E_deriv y)).add hK
    refine h.congr_deriv ?_
    have hs := intervalIntegral.smul_integral_comp_mul_left (a := 0) (b := 1) g y
    rw [mul_zero, mul_one, smul_eq_mul] at hs
    have hI : ∫ t in (0 : ℝ)..1, Real.exp (-(y ^ 2 * (1 + t ^ 2))) = g y * ∫ t in (0 : ℝ)..1, g (y * t) := by
      rw [← intervalIntegral.integral_const_mul]
      congr 1
      funext t
      unfold g
      rw [← Real.exp_add]
      congr 1
      ring
    rw [hI]
    have hE : E y = y * ∫ t in (0 : ℝ)..1, g (y * t) := hs.symm
    rw [hE]
    ring
  have h := is_const_of_deriv_eq_zero (fun y => (hd y).differentiableAt) (fun y => (hd y).deriv) x 0
  rw [sq (E x), h]
  have h0 : E 0 = 0 := by unfold E; simp
  have hK0 : K (0 ^ 2) = Real.pi / 4 := by
    unfold K
    simp only [ne_eq, OfNat.ofNat_ne_zero, not_false_eq_true, zero_pow, zero_mul, neg_zero, Real.exp_zero, one_mul]
    exact integral_w
  rw [h0, hK0]
  ring

/-- The Gaussian integral from zero is at most half the square root of pi. -/
theorem E_le (x : ℝ) : E x ≤ Real.sqrt Real.pi / 2 := by
  have hK : 0 ≤ K (x ^ 2) :=
    intervalIntegral.integral_nonneg zero_le_one fun t _ => mul_nonneg (Real.exp_pos _).le (by unfold w; positivity)
  have h := E_sq_add_K x
  refine le_of_sq_le_sq ?_ (by positivity)
  rw [div_pow, Real.sq_sqrt Real.pi_pos.le]
  linarith

end Cert.Proof.Gauss

end
-- ==== Proof.Erf.lean ====
/-
  The error function on the extended reals: it is finite everywhere, it does not decrease, and it stays between
  -1 and 1. Hence half the difference of two of its values in order is a real number between 0 and 1, and the
  three-way cumulative distribution function, written with `erf` near zero and with `erfc` in the two tails, is
  one expression in `erf`.
-/
module

public import Idealize.ShloMosaic.PureOps.Ideal.Laws
public import proofs.«01_k».proof.Proof.Gauss

@[expose] public section

noncomputable section

namespace Cert.Proof

open Idealize.ShloMosaic

/-- The error function of a real number. -/
def erfReal (r : ℝ) : ℝ := 2 / Real.sqrt Real.pi * ∫ t in (0 : ℝ)..r, Real.exp (-(t ^ 2))

theorem erf_real (r : ℝ) : Ideal.erf (r : EReal) = (erfReal r : EReal) := rfl

theorem gauss_integrable (u v : ℝ) :
    IntervalIntegrable (fun t : ℝ => Real.exp (-(t ^ 2))) MeasureTheory.volume u v := by
  apply Continuous.intervalIntegrable
  fun_prop

/-- On the reals the error function does not decrease: its integrand is positive. -/
theorem erfReal_mono : Monotone erfReal := by
  intro a b hab
  unfold erfReal
  refine mul_le_mul_of_nonneg_left ?_ (by positivity)
  rw [← sub_nonneg, intervalIntegral.integral_interval_sub_left (gauss_integrable 0 b) (gauss_integrable 0 a)]
  exact intervalIntegral.integral_nonneg hab fun t _ => (Real.exp_pos _).le

/-- On the reals the error function is at most one. -/
theorem erfReal_le_one (r : ℝ) : erfReal r ≤ 1 := by
  have hpi : 0 < Real.sqrt Real.pi := Real.sqrt_pos.2 Real.pi_pos
  have h : erfReal r = 2 / Real.sqrt Real.pi * Gauss.E r := rfl
  rw [h]
  calc 2 / Real.sqrt Real.pi * Gauss.E r ≤ 2 / Real.sqrt Real.pi * (Real.sqrt Real.pi / 2) :=
        mul_le_mul_of_nonneg_left (Gauss.E_le r) (by positivity)
    _ = 1 := by field_simp

theorem erfReal_neg (r : ℝ) : erfReal (-r) = -erfReal r := by
  have h := Ideal.erf_neg (r : EReal)
  rw [← EReal.coe_neg, erf_real, erf_real, ← EReal.coe_neg] at h
  exact_mod_cast h

theorem neg_one_le_erfReal (r : ℝ) : -1 ≤ erfReal r := by
  have h := erfReal_le_one (-r)
  rw [erfReal_neg] at h
  linarith

/-- The error function of an extended real, as a real number. -/
def erfR (x : EReal) : ℝ := (Ideal.erf x).toReal

/-- The error function is finite everywhere. -/
theorem erf_eq (x : EReal) : Ideal.erf x = (erfR x : EReal) := by
  induction x with
  | bot => rw [erfR, Ideal.erf_bot]; rfl
  | top => rw [erfR, Ideal.erf_top]; rfl
  | coe r => rw [erfR, erf_real, EReal.toReal_coe]

theorem erfR_coe (r : ℝ) : erfR (r : EReal) = erfReal r := by rw [erfR, erf_real, EReal.toReal_coe]
theorem erfR_bot : erfR ⊥ = -1 := by rw [erfR, Ideal.erf_bot]; rfl
theorem erfR_top : erfR ⊤ = 1 := by rw [erfR, Ideal.erf_top]; rfl

theorem erfR_le_one (x : EReal) : erfR x ≤ 1 := by
  induction x with
  | bot => rw [erfR_bot]; norm_num
  | top => rw [erfR_top]
  | coe r => rw [erfR_coe]; exact erfReal_le_one r

theorem neg_one_le_erfR (x : EReal) : -1 ≤ erfR x := by
  induction x with
  | bot => rw [erfR_bot]
  | top => rw [erfR_top]; norm_num
  | coe r => rw [erfR_coe]; exact neg_one_le_erfReal r

theorem erfR_mono {x y : EReal} (h : x ≤ y) : erfR x ≤ erfR y := by
  induction x with
  | bot => rw [erfR_bot]; exact neg_one_le_erfR y
  | top => rw [top_le_iff.1 h]
  | coe r =>
    induction y with
    | bot => exact absurd h (by simp)
    | top => rw [erfR_top]; exact erfR_le_one _
    | coe s => rw [erfR_coe, erfR_coe]; exact erfReal_mono (EReal.coe_le_coe_iff.1 h)

/-- The two tails and the middle of the distribution function are one expression, whatever the threshold between
    them: `erfc` is `1 - erf`, and `erf` is odd. -/
theorem cdf_branches (c : Prop) [Decidable c] (w : EReal) :
    (if c then 1 + Ideal.erf w else if 0 < w then 2 - Ideal.erfc (max w (-w)) else Ideal.erfc (max w (-w)))
      = ((1 + erfR w : ℝ) : EReal) := by
  have h1 : (1 : EReal) + Ideal.erf w = ((1 + erfR w : ℝ) : EReal) := by
    rw [erf_eq, EReal.coe_add, EReal.coe_one]
  split_ifs with hc hw
  · exact h1
  · have hneg : -w ≤ w := (EReal.neg_le_of_neg_le (by simpa using hw.le)).trans hw.le
    have h2 : (2 : EReal) = ((2 : ℝ) : EReal) := rfl
    rw [max_eq_left hneg, Ideal.erfc, erf_eq, h2, ← EReal.coe_one, ← EReal.coe_sub, ← EReal.coe_sub]
    congr 1
    ring
  · have hneg : w ≤ -w := (not_lt.1 hw).trans (EReal.le_neg_of_le_neg (by simpa using not_lt.1 hw))
    rw [max_eq_right hneg, Ideal.erfc_neg, h1]

end Cert.Proof

end
-- ==== Proof.Literals.lean ====
/-
  The float literals of the two programs, as the extended reals they denote.
-/
module

public import Idealize.ShloMosaic.PureOps.Ideal.Laws

@[expose] public section

noncomputable section

namespace Cert.Proof

open Idealize.ShloMosaic

theorem lit_bot : Ideal.ofBits .f32 0xFF800000#32 = ⊥ := by simp [Ideal.ofBits, Ideal.ieee]
theorem lit_top : Ideal.ofBits .f32 0x7F800000#32 = ⊤ := by simp [Ideal.ofBits, Ideal.ieee]
theorem lit_half : Ideal.ofBits .f32 0x3F000000#32 = ((1 / 2 : ℝ) : EReal) := by
  simp [Ideal.ofBits, Ideal.ieee]; simp only [← EReal.coe_mul]; norm_num
theorem lit_two : Ideal.ofBits .f32 0x40000000#32 = ((2 : ℝ) : EReal) := by
  simp [Ideal.ofBits, Ideal.ieee]; simp only [← EReal.coe_mul]; norm_num
theorem lit_quarter : Ideal.ofBits .f32 0x3E800000#32 = ((1 / 4 : ℝ) : EReal) := by
  simp [Ideal.ofBits, Ideal.ieee]; simp only [← EReal.coe_mul]; norm_num
/-- The float nearest to the square root of one half. -/
def rootHalf : ℝ := 11863283 / 2 ^ 24
theorem lit_rootHalf : Ideal.ofBits .f32 0x3F3504F3#32 = (rootHalf : EReal) := by
  simp [Ideal.ofBits, Ideal.ieee, rootHalf]; simp only [← EReal.coe_mul]; norm_num
/-- The kernel's factor is exactly four times the reference's. -/
theorem lit_rootEight : Ideal.ofBits .f32 0x403504F3#32 = ((4 * rootHalf : ℝ) : EReal) := by
  simp [Ideal.ofBits, Ideal.ieee, rootHalf]; simp only [← EReal.coe_mul]; norm_num
/-- The float nearest to one thousandth. -/
def thr : ℝ := 8589935 / 2 ^ 33
theorem lit_thr : Ideal.ofBits .f32 0x3A83126F#32 = (thr : EReal) := by
  simp [Ideal.ofBits, Ideal.ieee, thr]; simp only [← EReal.coe_mul]; norm_num
theorem thr_pos : 0 < thr := by unfold thr; norm_num
theorem thr_le_one : thr ≤ 1 := by unfold thr; norm_num
/-- The float nearest to 3e38. -/
def big : ℝ := 14791142 * 2 ^ 104
theorem lit_big : Ideal.ofBits .f32 0x7F61B1E6#32 = (big : EReal) := by
  simp [Ideal.ofBits, Ideal.ieee, big]
theorem one_lt_big : 1 < big := by unfold big; norm_num
theorem lit_count : Ideal.ofBits .f32 0x46800000#32 = ((16384 : ℝ) : EReal) := by
  simp [Ideal.ofBits, Ideal.ieee]; simp only [← EReal.coe_mul]; norm_num
theorem lit_perCount : Ideal.ofBits .f32 0x38800000#32 = ((1 / 16384 : ℝ) : EReal) := by
  simp [Ideal.ofBits, Ideal.ieee]; simp only [← EReal.coe_mul]; norm_num
theorem lit_special0 : Ideal.ofBits .f32 0xC2C80000#32 = ((-100 : ℝ) : EReal) := by
  simp [Ideal.ofBits, Ideal.ieee]; simp only [← EReal.coe_mul]; norm_num
theorem lit_special1 : Ideal.ofBits .f32 0xC47A0000#32 = ((-1000 : ℝ) : EReal) := by
  simp [Ideal.ofBits, Ideal.ieee]; simp only [← EReal.coe_mul]; norm_num

end Cert.Proof

end
-- ==== Proof.Row.lean ====
/-
  The mathematics of one row, over the extended reals.

  A row has 66 logits, one label and 65 bin boundaries.  The target weights are nonnegative
  reals; the loss is minus the weighted sum of the row's logarithmic softmax.
-/
module

public import proofs.«01_k».proof.Proof.Erf
public import proofs.«01_k».proof.Proof.Literals

@[expose] public section

noncomputable section

namespace Cert.Proof

open Idealize.ShloMosaic

/-! ### The target weights -/

/-- A boundary's distance from the label, in the units the error function takes. -/
def zed (b lab : EReal) : EReal := (b - lab) * ((4 * rootHalf : ℝ) : EReal)

theorem zed_mono {b b' : EReal} (lab : EReal) (h : b ≤ b') : zed b lab ≤ zed b' lab :=
  mul_le_mul_of_nonneg_right (EReal.sub_le_sub h le_rfl)
    (EReal.coe_nonneg.mpr (by unfold rootHalf; norm_num))

/-- Dividing by a quarter and then scaling by the root is the same distance. -/
theorem div_mul_eq_zed (b lab : EReal) :
    Ideal.div (b - lab) ((1 / 4 : ℝ) : EReal) * (rootHalf : EReal) = zed b lab := by
  rw [Ideal.div_coe (by norm_num), mul_assoc, ← EReal.coe_mul, zed]
  norm_num

/-- The normal mass that falls between the boundaries `lo` and `hi`. -/
def mass (lo hi lab : EReal) : ℝ := 1 / 2 * (erfR (zed hi lab) - erfR (zed lo lab))

theorem mass_nonneg {lo hi : EReal} (lab : EReal) (h : lo ≤ hi) : 0 ≤ mass lo hi lab := by
  have := erfR_mono (zed_mono lab h)
  unfold mass; linarith

theorem mass_le_one (lo hi lab : EReal) : mass lo hi lab ≤ 1 := by
  have h1 := erfR_le_one (zed hi lab)
  have h2 := neg_one_le_erfR (zed lo lab)
  unfold mass; linarith

/-- A label that stands for one of the two special classes. -/
def Special (lab : EReal) : Prop :=
  lab = ((-100 : ℝ) : EReal) ∨ lab = ((-1000 : ℝ) : EReal)

open Classical in
/-- One for a label equal to the mark, zero for any other. -/
def hit (mark : ℝ) (lab : EReal) : ℝ := if lab = (mark : EReal) then 1 else 0

open Classical in
/-- A bin's weight: its mass, unless the label is special or the mass is below the threshold. -/
def binWeight (lo hi lab : EReal) : ℝ :=
  if Special lab then 0 else if thr ≤ mass lo hi lab then mass lo hi lab else 0

theorem hit_nonneg (mark : ℝ) (lab : EReal) : 0 ≤ hit mark lab := by
  unfold hit; split <;> norm_num

theorem binWeight_nonneg (lo hi lab : EReal) : 0 ≤ binWeight lo hi lab := by
  unfold binWeight
  split
  · exact le_rfl
  · split
    · exact thr_pos.le.trans ‹_›
    · exact le_rfl

theorem pos_hits_iff (lab : EReal) :
    (0 : EReal) < (hit (-100) lab : EReal) + (hit (-1000) lab : EReal) ↔ Special lab := by
  rw [← EReal.coe_add, EReal.coe_pos]
  have h0 := hit_nonneg (-100) lab
  have h1 := hit_nonneg (-1000) lab
  unfold Special
  constructor
  · intro h
    by_contra hn
    rw [not_or] at hn
    have e0 : hit (-100) lab = 0 := if_neg hn.1
    have e1 : hit (-1000) lab = 0 := if_neg hn.2
    rw [e0, e1] at h
    simp at h
  · rintro (h | h)
    · have : hit (-100) lab = 1 := by simp [hit, h]
      linarith
    · have : hit (-1000) lab = 1 := by simp [hit, h]
      linarith

/-- The kernel keeps a bin by one comparison: with a huge threshold where the label is special. -/
theorem kernel_weight (lo hi lab : EReal) :
    (if (if (0 : EReal) < (hit (-100) lab : EReal) + (hit (-1000) lab : EReal)
          then (big : EReal) else (thr : EReal))
        ≤ ((1 / 2 : ℝ) : EReal) * ((erfR (zed hi lab) : EReal) - (erfR (zed lo lab) : EReal))
      then ((1 / 2 : ℝ) : EReal) * ((erfR (zed hi lab) : EReal) - (erfR (zed lo lab) : EReal))
      else 0) = (binWeight lo hi lab : EReal) := by
  rw [← EReal.coe_sub, ← EReal.coe_mul, ← mass.eq_def]
  unfold binWeight
  by_cases hs : Special lab
  · rw [if_pos ((pos_hits_iff lab).mpr hs), if_pos hs]
    have : ¬ big ≤ mass lo hi lab := by
      have := mass_le_one lo hi lab
      have := one_lt_big
      linarith
    simp [this]
  · rw [if_neg (mt (pos_hits_iff lab).mp hs), if_neg hs]
    by_cases ht : thr ≤ mass lo hi lab <;> simp [ht]

/-- The reference keeps a bin by the size of its weight. -/
theorem reference_weight {lo hi : EReal} (lab : EReal) (h : lo ≤ hi)
    [Decidable (Special lab)] :
    (if (thr : EReal) ≤ max (if Special lab then 0 else (mass lo hi lab : EReal))
          (-(if Special lab then 0 else (mass lo hi lab : EReal)))
      then (if Special lab then 0 else (mass lo hi lab : EReal)) else 0)
      = (binWeight lo hi lab : EReal) := by
  have h0 := mass_nonneg lab h
  by_cases hs : Special lab
  · simp [hs, binWeight]
  · have : max (mass lo hi lab : EReal) (-(mass lo hi lab : EReal)) = (mass lo hi lab : EReal) :=
      max_eq_left (by rw [← EReal.coe_neg, EReal.coe_le_coe_iff]; linarith)
    by_cases ht : thr ≤ mass lo hi lab <;> simp [hs, ht, binWeight, this]

/-- A mark of zero or one passes the reference's threshold unchanged. -/
theorem reference_hit (mark : ℝ) (lab : EReal) :
    (if (thr : EReal) ≤ max (hit mark lab : EReal) (-(hit mark lab : EReal))
      then (hit mark lab : EReal) else 0) = (hit mark lab : EReal) := by
  unfold hit
  split
  · have : (thr : EReal) ≤ max ((1 : ℝ) : EReal) (-((1 : ℝ) : EReal)) :=
      le_max_of_le_left (EReal.coe_le_coe_iff.mpr thr_le_one)
    rw [if_pos this]
  · simp

/-- The 66 target weights of a row: the two special classes, then the 64 bins. -/
def weight (b : Fin 65 → EReal) (lab : EReal) : Fin 66 → ℝ :=
  Fin.cases (hit (-100) lab) (Fin.cases (hit (-1000) lab) fun k : Fin 64 =>
    binWeight (b ⟨k, by omega⟩) (b ⟨1 + k, by omega⟩) lab)

theorem weight_nonneg (b : Fin 65 → EReal) (lab : EReal) (j : Fin 66) : 0 ≤ weight b lab j := by
  refine Fin.cases ?_ (fun j => Fin.cases ?_ (fun k => ?_) j) j
  · exact hit_nonneg _ _
  · exact hit_nonneg _ _
  · exact binWeight_nonneg _ _ _

/-! ### The row's loss -/

/-- The largest of a row's logits. -/
def top {n : ℕ} (a : Fin n → EReal) : EReal := Finset.fold max ⊥ a Finset.univ

theorem le_top {n : ℕ} (a : Fin n → EReal) (j : Fin n) : a j ≤ top a :=
  Finset.le_sup (f := a) (Finset.mem_univ j)

theorem exists_eq_top {n : ℕ} (a : Fin (n + 1) → EReal) : ∃ j, a j = top a := by
  obtain ⟨j, -, h⟩ := Finset.exists_mem_eq_sup (Finset.univ : Finset (Fin (n + 1))) ⟨0, by simp⟩ a
  exact ⟨j, h.symm⟩

/-- The largest of 66 logits is the largest of the last 64 and of the first two. -/
theorem top_split (a : Fin 66 → EReal) :
    max (top fun k : Fin 64 => a k.succ.succ) (max (a 0) (a 1)) = top a := by
  apply le_antisymm
  · refine max_le ?_ (max_le (le_top a 0) (le_top a 1))
    exact Finset.sup_le fun k _ => le_top a k.succ.succ
  · refine Finset.sup_le fun j _ => ?_
    refine Fin.cases ?_ (fun j => Fin.cases ?_ (fun k => ?_) j) j
    · exact le_max_of_le_right (le_max_left _ _)
    · exact le_max_of_le_right (le_max_right _ _)
    · exact le_max_of_le_left (le_top (fun k : Fin 64 => a k.succ.succ) k)

theorem sum_split {M : Type} [AddCommMonoid M] (f : Fin 66 → M) :
    ∑ j, f j = (∑ k : Fin 64, f k.succ.succ) + (f 0 + f 1) := by
  rw [Fin.sum_univ_succ, Fin.sum_univ_succ, ← add_assoc, add_comm]
  rfl

theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- One row as the reference computes it. -/
def refRow (a : Fin 66 → EReal) (w : Fin 66 → EReal) : EReal :=
  -∑ j, (a j - top a - Ideal.log (∑ i, Ideal.exp (a i - top a))) * w j

/-- One row as the kernel computes it: the two special classes apart from the 64 bins. -/
def kernelRow (x : Fin 64 → EReal) (s0 s1 : EReal) (p : Fin 64 → EReal) (i0 i1 : EReal) : EReal :=
  (Ideal.log ((∑ k, Ideal.exp (x k - max (top x) (max s0 s1)))
        + Ideal.exp (s0 - max (top x) (max s0 s1)) + Ideal.exp (s1 - max (top x) (max s0 s1)))
      + max (top x) (max s0 s1)) * ((∑ k, p k) + (i0 + i1))
    - ((∑ k, p k * x k) + i0 * s0 + i1 * s1)

theorem exp_shift {x : EReal} (hx : x ≠ ⊤) (μ : ℝ) :
    ∃ e : ℝ, 0 ≤ e ∧ Ideal.exp (x - (μ : EReal)) = (e : EReal) := by
  induction x using EReal.rec with
  | bot => exact ⟨0, le_rfl, by rw [EReal.bot_sub]; rfl⟩
  | coe x => exact ⟨Real.exp (x - μ), (Real.exp_pos _).le, by rw [← EReal.coe_sub]; rfl⟩
  | top => exact absurd rfl hx

theorem term_shift {x : EReal} (hx : x ≠ ⊤) (μ l : ℝ) {w : ℝ} (hw : 0 ≤ w) :
    (x - (μ : EReal) - (l : EReal)) * (w : EReal)
      = x * (w : EReal) + ((-((l + μ) * w) : ℝ) : EReal) := by
  induction x using EReal.rec with
  | bot =>
    rcases hw.eq_or_lt with rfl | hw
    · simp
    · simp [EReal.bot_mul_coe_of_pos hw]
  | coe x =>
    rw [← EReal.coe_sub, ← EReal.coe_sub, ← EReal.coe_mul, ← EReal.coe_mul, ← EReal.coe_add]
    congr 1; ring
  | top => exact absurd rfl hx

/-- Where the largest logit is finite the two ways to compute a row agree. -/
theorem kernelRow_eq_refRow (a : Fin 66 → EReal) (w : Fin 66 → ℝ) (hw : ∀ j, 0 ≤ w j)
    (ht : top a ≠ ⊤) (hb : top a ≠ ⊥) :
    kernelRow (fun k => a k.succ.succ) (a 0) (a 1) (fun k => (w k.succ.succ : EReal))
        (w 0 : EReal) (w 1 : EReal)
      = refRow a (fun j => (w j : EReal)) := by
  obtain ⟨μ, hμ⟩ : ∃ μ : ℝ, top a = (μ : EReal) := ⟨_, (EReal.coe_toReal ht hb).symm⟩
  have hne : ∀ j, a j ≠ ⊤ := fun j h => ht (top_le_iff.mp (h ▸ le_top a j))
  choose e he0 he using fun j => exp_shift (hne j) μ
  have hpos : 0 < ∑ j, e j := by
    obtain ⟨j, hj⟩ := exists_eq_top a
    have : e j = 1 := by
      have := he j
      rw [hj, hμ, ← EReal.coe_sub, sub_self, Ideal.exp_coe, Real.exp_zero] at this
      exact (EReal.coe_eq_coe_iff.mp this).symm
    have h1 : e j ≤ ∑ j, e j := Finset.single_le_sum (fun i _ => he0 i) (Finset.mem_univ j)
    linarith
  have hlog : Ideal.log ((∑ j, e j : ℝ) : EReal) = (Real.log (∑ j, e j) : EReal) := by
    rw [Ideal.log_coe, if_neg (not_le.mpr hpos)]
  set l := Real.log (∑ j, e j)
  have hK : (∑ k : Fin 64, Ideal.exp (a k.succ.succ - (μ : EReal)))
      + Ideal.exp (a 0 - (μ : EReal)) + Ideal.exp (a 1 - (μ : EReal))
      = ((∑ j, e j : ℝ) : EReal) := by
    rw [coe_sum, sum_split, add_assoc]
    simp only [he]
  have hX : (∑ k : Fin 64, (w k.succ.succ : EReal) * a k.succ.succ) + (w 0 : EReal) * a 0
      + (w 1 : EReal) * a 1 = ∑ j, a j * (w j : EReal) := by
    rw [sum_split, add_assoc]
    simp only [mul_comm]
  have hS : (∑ k : Fin 64, (w k.succ.succ : EReal)) + ((w 0 : EReal) + (w 1 : EReal))
      = ((∑ j, w j : ℝ) : EReal) := by
    rw [coe_sum, sum_split]
  unfold kernelRow refRow
  rw [top_split, hμ, hK, hlog, hX, hS]
  simp only [he]
  rw [← coe_sum, hlog]
  simp only [term_shift (hne _) μ l (hw _)]
  rw [Finset.sum_add_distrib, ← coe_sum, EReal.neg_add (Or.inr (EReal.coe_ne_top _))
    (Or.inr (EReal.coe_ne_bot _)), Finset.sum_neg_distrib, ← Finset.mul_sum, sub_eq_add_neg,
    sub_eq_add_neg, add_comm, ← EReal.coe_neg, neg_neg, ← EReal.coe_add, ← EReal.coe_mul]

/-! ### The mean over the rows -/

/-- A nonnegative real factor distributes over a sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi, ← ih, mul_comm,
      EReal.left_distrib_of_nonneg_of_ne_top (EReal.coe_nonneg.mpr hr) (EReal.coe_ne_top _),
      mul_comm, mul_comm (r : EReal)]

end Cert.Proof

end
-- ==== Proof.Block.lean ====
/-
  What one grid point computes: the loss of each of its 4096 rows, summed over the lanes, scaled
  and added to the running total.
-/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Block

open Idealize.ShloMosaic Cert.KernelIdeal Cert.KernelIdeal.Gen Cert.Proof

/-- A comparison's bit, widened and read as a signed number, is one or zero. -/
theorem mark_eq (x : EReal) (b : BitVec 32) (v : ℝ) (hb : Ideal.ofBits .f32 b = (v : EReal))
    [Decidable (x = Ideal.ofBits .f32 b)] :
    (FloatOps.sitofp (F := Ideal) .f32
      (BitVec.setWidth 32 (BitVec.ofBool (decide (x = Ideal.ofBits .f32 b)))) : EReal)
      = (hit v x : EReal) := by
  rw [hit, ← hb]
  by_cases h : x = Ideal.ofBits .f32 b
  · rw [if_pos h, decide_eq_true h]
    change (((BitVec.setWidth 32 (BitVec.ofBool true)).toInt : ℝ) : EReal) = _
    rw [show (BitVec.setWidth 32 (BitVec.ofBool true)).toInt = 1 by decide]
    norm_num
  · rw [if_neg h, decide_eq_false h]
    change (((BitVec.setWidth 32 (BitVec.ofBool false)).toInt : ℝ) : EReal) = _
    rw [show (BitVec.setWidth 32 (BitVec.ofBool false)).toInt = 0 by decide]
    norm_num

theorem pay2_at (x0 : Vec Ideal S64x4096 .bf16) (k : Fin 64) (l : Fin 4096) :
    k0_pay2 x0 (ix2 k l) = x0 (ix2 k l) := by
  pointwise [k0_pay2]

theorem pay3_at (x1 : Vec Ideal S2x4096 .bf16) (k : Fin 2) (l : Fin 4096) :
    k0_pay3 x1 (ix2 k l) = x1 (ix2 k l) := by
  pointwise [k0_pay3]

/-- The logarithm of a row's sum of exponentials. -/
theorem pay5_at (x0 : Vec Ideal S64x4096 .bf16) (x1 : Vec Ideal S2x4096 .bf16) (l : Fin 4096) :
    k0_pay5 x0 x1 (ix2 0 l)
      = Ideal.log ((∑ k, Ideal.exp (x0 (ix2 k l)
              - max (top fun k => x0 (ix2 k l)) (max (x1 (ix2 0 l)) (x1 (ix2 1 l)))))
          + Ideal.exp (x1 (ix2 0 l)
              - max (top fun k => x0 (ix2 k l)) (max (x1 (ix2 0 l)) (x1 (ix2 1 l))))
          + Ideal.exp (x1 (ix2 1 l)
              - max (top fun k => x0 (ix2 k l)) (max (x1 (ix2 0 l)) (x1 (ix2 1 l)))))
        + max (top fun k => x0 (ix2 k l)) (max (x1 (ix2 0 l)) (x1 (ix2 1 l))) := by
  unfold top
  rw [← lit_bot]
  pointwise [k0_pay5, k0_pay2, k0_pay3]

theorem pay6_at (x2 : Vec Ideal S1x4096 .f32) (l : Fin 4096) :
    k0_pay6 x2 (ix2 0 l) = (hit (-100) (x2 (ix2 0 l)) : EReal) := by
  pointwise [k0_pay6, k0_pay4]
  exact mark_eq _ _ _ lit_special0

theorem pay7_at (x2 : Vec Ideal S1x4096 .f32) (l : Fin 4096) :
    k0_pay7 x2 (ix2 0 l) = (hit (-1000) (x2 (ix2 0 l)) : EReal) := by
  pointwise [k0_pay7, k0_pay4]
  exact mark_eq _ _ _ lit_special1

theorem pay8_at (x2 : Vec Ideal S1x4096 .f32) (l : Fin 4096) :
    k0_pay8 x2 (ix2 0 l) = (hit (-100) (x2 (ix2 0 l)) : EReal)
      + (hit (-1000) (x2 (ix2 0 l)) : EReal) := by
  rw [← pay6_at, ← pay7_at]
  rfl

theorem pay9_at (x2 : Vec Ideal S1x4096 .f32) (x3 : Vec Ideal S65x1 .f32) (k : Fin 65)
    (l : Fin 4096) :
    k0_pay9 x2 x3 (ix2 k l) = (erfR (zed (x3 (ix2 k 0)) (x2 (ix2 0 l))) : EReal) := by
  rw [← erf_eq, zed, ← lit_rootEight]
  pointwise [k0_pay9, k0_pay4]
  rfl

/-- One lane's loss, from the point's four blocks. -/
def lane (x0 : Vec Ideal S64x4096 .bf16) (x1 : Vec Ideal S2x4096 .bf16)
    (x2 : Vec Ideal S1x4096 .f32) (x3 : Vec Ideal S65x1 .f32) (l : Fin 4096) : EReal :=
  kernelRow (fun k => x0 (ix2 k l)) (x1 (ix2 0 l)) (x1 (ix2 1 l))
    (fun k : Fin 64 => (binWeight (x3 (ix2 ⟨k, by omega⟩ 0)) (x3 (ix2 ⟨1 + k, by omega⟩ 0))
      (x2 (ix2 0 l)) : EReal))
    (hit (-100) (x2 (ix2 0 l)) : EReal) (hit (-1000) (x2 (ix2 0 l)) : EReal)

/-- The stored word: the total so far and the scaled sum of the lanes. -/
theorem pay1_eq (x0 : Vec Ideal S64x4096 .bf16) (x1 : Vec Ideal S2x4096 .bf16)
    (x2 : Vec Ideal S1x4096 .f32) (x3 : Vec Ideal S65x1 .f32) (acc : EReal) :
    k0_pay1 (F := Ideal) (k0_pay2 x0) (k0_pay3 x1) (k0_pay5 x0 x1) (k0_pay6 x2) (k0_pay7 x2)
        (k0_pay8 x2) (k0_pay9 x2 x3) acc
      = acc + (∑ l, lane x0 x1 x2 x3 l) * ((1 / 16384 : ℝ) : EReal) := by
  have h2 := pay2_at x0
  have h3 := pay3_at x1
  have h5 := pay5_at x0 x1
  have h6 := pay6_at x2
  have h7 := pay7_at x2
  have h8 := pay8_at x2
  have h9 := pay9_at x2 x3
  generalize k0_pay2 x0 = v2 at *
  generalize k0_pay3 x1 = v5 at *
  generalize k0_pay5 x0 x1 = v30 at *
  generalize k0_pay6 x2 = v34 at *
  generalize k0_pay7 x2 = v38 at *
  generalize k0_pay8 x2 = v39 at *
  generalize k0_pay9 x2 x3 = v45 at *
  pointwise [k0_pay1]
  rw [Fin.sum_univ_one, ← lit_perCount]
  refine congrArg (fun s => acc + s * _) (Finset.sum_congr rfl fun l _ => ?_)
  simp only [h2, h3, h5, h6, h7, h8, h9, lit_half, lit_thr, lit_big, Ideal.ofBits_zero_f32,
    kernel_weight]
  rfl

end Cert.KernelIdeal.Block

end
-- ==== Proof.KernelValue.lean ====
/-
  What the kernel's result array holds: the sum of every row's loss, scaled by the row count.
-/
module

public import proofs.«01_k».proof.Proof.Gen.KernelIdeal.Value
public import proofs.«01_k».proof.Proof.Block
public import Idealize.ShloMosaic.Lib.Pipeline.ValueKit
public import Idealize.ShloMosaic.Lib.Claim

@[expose] public section

set_option maxRecDepth 16384

noncomputable section

namespace Cert.KernelIdeal.Result

open Idealize.ShloMosaic Cert.KernelIdeal Cert.KernelIdeal.Gen Cert.Proof
open Idealize.ShloMosaic.TcCoe Idealize.SL.Sem

variable (m : (ℓ : Loc nD τ sig) → Buf (Elt Ideal) ℓ)

/-- The blocks' places: four blocks along the rows, the boundaries whole. -/
theorem idx : ∀ t : Fin grid0.N,
    win0_0.index t = ![0, t.val] ∧ win0_1.index t = ![0, t.val] ∧ win0_2.index t = ![0, t.val]
      ∧ win0_3.index t = ![0, 0] := by decide +kernel

/-- Row `t * 4096 + l`: the row that lane `l` of point `t` holds. -/
def rowOf (t : Fin cfg0.N) (l : Fin 4096) : Fin 16384 :=
  ⟨t.val * 4096 + l.val, by have := t.isLt; have := N_0; change t.val < grid0.N at *; omega⟩

theorem blk0 (c : Dev nD) (t : Fin cfg0.N) (k : Fin 64) (l : Fin 4096) :
    (iblk m c 0 t : Vec Ideal S64x4096 .bf16) (ix2 k l)
      = m (c, Proc.tc.devRef main_arg0) (ix2 (rowOf t l) k.succ.succ) := by
  blk_ext! [iblk, idx t, rowOf]
  exact Nat.add_comm 2 k.val

theorem blk1_0 (c : Dev nD) (t : Fin cfg0.N) (l : Fin 4096) :
    (iblk m c 1 t : Vec Ideal S2x4096 .bf16) (ix2 0 l)
      = m (c, Proc.tc.devRef main_arg0) (ix2 (rowOf t l) 0) := by
  blk_ext! [iblk, idx t, rowOf]

theorem blk1_1 (c : Dev nD) (t : Fin cfg0.N) (l : Fin 4096) :
    (iblk m c 1 t : Vec Ideal S2x4096 .bf16) (ix2 1 l)
      = m (c, Proc.tc.devRef main_arg0) (ix2 (rowOf t l) 1) := by
  blk_ext! [iblk, idx t, rowOf]

theorem blk2 (c : Dev nD) (t : Fin cfg0.N) (l : Fin 4096) :
    (iblk m c 2 t : Vec Ideal S1x4096 .f32) (ix2 0 l)
      = m (c, Proc.tc.devRef main_arg1) (ix1 (rowOf t l)) := by
  blk_ext! [iblk, idx t, rowOf]

theorem blk3 (c : Dev nD) (t : Fin cfg0.N) (k : Fin 65) :
    (iblk m c 3 t : Vec Ideal S65x1 .f32) (ix2 k 0)
      = m (c, Proc.tc.devRef main_arg2) (ix1 k) := by
  blk_ext! [iblk, idx t]

/-- A row's loss as the kernel computes it, from the argument arrays. -/
def rowLoss (x : Vec Ideal S16384x66 .f32) (lab : Vec Ideal S16384 .f32)
    (b : Vec Ideal S65 .f32) (r : Fin 16384) : EReal :=
  kernelRow (fun k : Fin 64 => x (ix2 r k.succ.succ)) (x (ix2 r 0)) (x (ix2 r 1))
    (fun k : Fin 64 => (weight (fun i => b (ix1 i)) (lab (ix1 r)) k.succ.succ : EReal))
    (weight (fun i => b (ix1 i)) (lab (ix1 r)) 0 : EReal)
    (weight (fun i => b (ix1 i)) (lab (ix1 r)) 1 : EReal)

theorem lane_eq (c : Dev nD) (t : Fin cfg0.N) (l : Fin 4096) :
    Block.lane (iblk m c 0 t) (iblk m c 1 t) (iblk m c 2 t) (iblk m c 3 t) l
      = rowLoss (m (c, Proc.tc.devRef main_arg0)) (m (c, Proc.tc.devRef main_arg1))
          (m (c, Proc.tc.devRef main_arg2)) (rowOf t l) := by
  unfold Block.lane rowLoss
  simp only [blk0, blk1_0, blk1_1, blk2, blk3]
  rfl

theorem one_index (i j : S1x1.Idx) : i = j := by
  blk_ext

/-- A point's contribution to the total. -/
def part (c : Dev nD) (t : Fin cfg0.N) : EReal :=
  (∑ l, rowLoss (m (c, Proc.tc.devRef main_arg0)) (m (c, Proc.tc.devRef main_arg1))
    (m (c, Proc.tc.devRef main_arg2)) (rowOf t l)) * ((1 / 16384 : ℝ) : EReal)

theorem step_first (c : Dev nD) (t : Fin cfg0.N) (h : t.val % 4 = 0) (j : S1x1.Idx) :
    outsAt0 m c t.val t.isLt j = (0 : EReal) + part m c t := by
  rw [outsAt0_A m c t h]
  frame_out
  refine (Block.pay1_eq _ _ _ _ _).trans ?_
  simp only [lane_eq]
  exact congrArg (· + part m c t) Ideal.ofBits_zero_f32

theorem step_next (c : Dev nD) (t : Fin cfg0.N) (h : ¬t.val % 4 = 0) (j : S1x1.Idx) :
    outsAt0 m c t.val t.isLt j
      = (outsAt0 m c (t.val - 1) (Nat.lt_of_le_of_lt (Nat.sub_le _ _) t.isLt) j : EReal)
        + part m c t := by
  rw [outsAt0_B m c t h]
  frame_out
  refine (Block.pay1_eq _ _ _ _ _).trans ?_
  simp only [lane_eq]
  refine congrArg (· + part m c t) (congrArg (outsAt0 m c (t.val - 1) _) ?_)
  exact one_index _ _

/-- The total after the last point. -/
theorem total (c : Dev nD) (j : S1x1.Idx) :
    outsAt0 m c t0_3.val t0_3.isLt j
      = (∑ r, rowLoss (m (c, Proc.tc.devRef main_arg0)) (m (c, Proc.tc.devRef main_arg1))
          (m (c, Proc.tc.devRef main_arg2)) r) * ((1 / 16384 : ℝ) : EReal) := by
  refine (Pipeline.eq_sum_fin_of_reset_step_apply_last (M := EReal) (fun n h => outsAt0 m c n h) 4
    (fun _ => 0) (fun t _ => part m c t) (step_first m c) (step_next m c) (by decide) t0_3 rfl
    j).trans ?_
  unfold part
  rw [zero_add, ← sum_mul_coe _ _ (by norm_num)]
  refine congrArg (· * ((1 / 16384 : ℝ) : EReal)) ?_
  exact Fin.sum_mul_add_fin 4 4096 (rowLoss (m (c, Proc.tc.devRef main_arg0))
    (m (c, Proc.tc.devRef main_arg1)) (m (c, Proc.tc.devRef main_arg2))) rfl

/-- The result array after the run. -/
theorem array (c : Dev nD) :
    (dats m 0 c).arrAt 4 cfg0.N
      = fun _ => (∑ r, rowLoss (m (c, Proc.tc.devRef main_arg0)) (m (c, Proc.tc.devRef main_arg1))
          (m (c, Proc.tc.devRef main_arg2)) r) * ((1 / 16384 : ℝ) : EReal) := by
  refine (dats m 0 c).arrAt_eq_of_after_last 4 t0_3 (by decide +kernel) _ fun j => ?_
  blk_simp
  rw [after0_4]
  exact total m c j

end Cert.KernelIdeal.Result

end
-- ==== Proof.RefValue.lean ====
/-
  What the reference's result holds: minus the mean over the rows of the weighted logarithmic
  softmax, each intermediate array named and read at one element.
-/
module

public import proofs.«01_k».proof.Proof.Gen.ReferenceIdeal.Run
public import proofs.«01_k».proof.Proof.Row
public import Idealize.ShloMosaic.Lib.Pointwise

@[expose] public section

set_option maxRecDepth 16384

noncomputable section

namespace Cert.ReferenceIdeal.Reading

open Idealize.ShloMosaic Cert.ReferenceIdeal Cert.ReferenceIdeal.Gen Cert.Proof
open Idealize.ShloMosaic.TcCoe Idealize.SL.Sem

/-! ### The intermediate arrays -/

/-- Where the label equals the number with the given bits. -/
def markAt (bits : BitVec 32) (lab : FVec Ideal S16384 .f32) : IVec S16384 1 :=
  cmpf .oeq lab (broadcastInDim S16384 ![] bcast_S_S16384 (constant (F := Ideal) S_ .f32 bits))

/-- The label as a column. -/
def column {α : Type} (x : S16384.Idx → α) : S16384x1.Idx → α :=
  broadcastInDim S16384x1 ![0] bcast_S16384_S16384x1_0 x

/-- A number everywhere. -/
def fill64 (bits : BitVec 32) : FVec Ideal S16384x64 .f32 :=
  broadcastInDim S16384x64 ![] bcast_S_S16384x64 (constant (F := Ideal) S_ .f32 bits)

/-- The standardised distance of a boundary from the label. -/
def distance (edge : FVec Ideal S64 .f32) (lab : FVec Ideal S16384 .f32) :
    FVec Ideal S16384x64 .f32 :=
  mulf (Host.divf (subf
      (broadcastInDim S16384x64 ![0, 1] bcast_S1x64_S16384x64_0_1
        (broadcastInDim S1x64 ![1] bcast_S64_S1x64_1 edge))
      (broadcastInDim S16384x64 ![0, 1] bcast_S16384x1_S16384x64_0_1 (column lab)))
    (fill64 0x3E800000#32)) (fill64 0x3F3504F3#32)

/-- The normal distribution function of twice-scaled distances. -/
def cdf (w : FVec Ideal S16384x64 .f32) : FVec Ideal S16384x64 .f32 :=
  mulf (fill64 0x3F000000#32)
    (select (cmpf .olt (Host.absf w) (fill64 0x3F3504F3#32))
      (addf (fill64 0x3F800000#32) (Host.erf w))
      (select (cmpf .ogt w (fill64 0x00000000#32))
        (subf (fill64 0x40000000#32) (Host.erfc (Host.absf w)))
        (Host.erfc (Host.absf w))))

/-- The two special classes' marks, as numbers. -/
def marks (lab : FVec Ideal S16384 .f32) : FVec Ideal S16384x2 .f32 :=
  uitofp .f32 (concatenate S16384x2 1
    [⟨S16384x1, column (markAt 0xC2C80000#32 lab)⟩, ⟨S16384x1, column (markAt 0xC47A0000#32 lab)⟩]
    concatenates_S16384x1_S16384x1_S16384x2_d1)

/-- The bins' masses, zero where the label is special. -/
def bins (lab : FVec Ideal S16384 .f32) (b : FVec Ideal S65 .f32) : FVec Ideal S16384x64 .f32 :=
  select (broadcastInDim S16384x64 ![0, 1] bcast_S16384x1_S16384x64_0_1
      (column (ori (markAt 0xC2C80000#32 lab) (markAt 0xC47A0000#32 lab))))
    (broadcastInDim S16384x64 ![] bcast_S_S16384x64 (id (constant (F := Ideal) S_ .f32 0x00000000#32)))
    (subf (cdf (distance (extractStridedSlice S64 ![1] b slices_S65_S64_1) lab))
      (cdf (distance (extractStridedSlice S64 ![0] b slices_S65_S64_0) lab)))

/-- The weights before the threshold. -/
def raw (lab : FVec Ideal S16384 .f32) (b : FVec Ideal S65 .f32) : FVec Ideal S16384x66 .f32 :=
  concatenate S16384x66 1 [⟨S16384x2, marks lab⟩, ⟨S16384x64, bins lab b⟩]
    concatenates_S16384x2_S16384x64_S16384x66_d1

/-- The weights: those below the threshold are dropped. -/
def target (r : FVec Ideal S16384x66 .f32) : FVec Ideal S16384x66 .f32 :=
  select (cmpf .oge (Host.absf r) (broadcastInDim S16384x66 ![] bcast_S_S16384x66
      (constant (F := Ideal) S_ .f32 0x3A83126F#32)))
    r (broadcastInDim S16384x66 ![] bcast_S_S16384x66 (id (constant (F := Ideal) S_ .f32 0x00000000#32)))

/-- The rows' largest logits. -/
def rowMax (x : FVec Ideal S16384x66 .f32) : FVec Ideal S16384 .f32 :=
  maximumf (broadcastInDim S16384 ![] bcast_S_S16384 (constant (F := Ideal) S_ .f32 0xFF800000#32))
    (Host.reduce FloatOps.maximumf x (constant (F := Ideal) S_ .f32 0xFF800000#32)
      reducesTo_S16384x66_S16384_d1 h_S_)

/-- The logits less their row's largest. -/
def centred (x : FVec Ideal S16384x66 .f32) : FVec Ideal S16384x66 .f32 :=
  subf x (broadcastInDim S16384x66 ![0, 1] bcast_S16384x1_S16384x66_0_1 (column (rowMax x)))

/-- The logarithmic softmax, from the centred logits. -/
def logp (y : FVec Ideal S16384x66 .f32) : FVec Ideal S16384x66 .f32 :=
  subf y (broadcastInDim S16384x66 ![0, 1] bcast_S16384x1_S16384x66_0_1
    (Host.log (column (Host.reduceAdd (Host.exp y) (constant (F := Ideal) S_ .f32 0x00000000#32)
      reducesTo_S16384x66_S16384_d1 h_S_))))

/-- The rows' losses. -/
def losses (p t : FVec Ideal S16384x66 .f32) : FVec Ideal S16384 .f32 :=
  Host.negf (Host.reduceAdd (mulf p t) (constant (F := Ideal) S_ .f32 0x00000000#32)
    reducesTo_S16384x66_S16384_d1 h_S_)

/-- The mean over the rows. -/
def mean (l : FVec Ideal S16384 .f32) : FVec Ideal S1x1 .f32 :=
  shapeCast S1x1 (Host.divf (Host.reduceAdd l (constant (F := Ideal) S_ .f32 0x00000000#32)
    reducesTo_S16384_S_d0 h_S_) (constant (F := Ideal) S_ .f32 0x46800000#32)) shapeCasts_S_S1x1

/-- The result's term is the composition of the named arrays. -/
theorem result_eq (m : (ℓ : Loc nD τ sig) → Buf (Elt Ideal) ℓ) (c : Dev nD) :
    Value.res_main_v75 m c
      = mean (losses (logp (centred (m (c, Proc.tc.devRef main_arg0))))
          (target (raw (m (c, Proc.tc.devRef main_arg1)) (m (c, Proc.tc.devRef main_arg2))))) := by
  unfold Value.res_main_v75
  rfl

/-! ### Their elements -/

theorem distance_at (edge : FVec Ideal S64 .f32) (lab : FVec Ideal S16384 .f32)
    (r : Fin 16384) (k : Fin 64) :
    distance edge lab (ix2 r k) = zed (edge (ix1 k)) (lab (ix1 r)) := by
  rw [← div_mul_eq_zed, ← lit_quarter, ← lit_rootHalf]
  pointwise [distance, column, fill64]

theorem cdf_at (w : FVec Ideal S16384x64 .f32) (r : Fin 16384) (k : Fin 64) :
    cdf w (ix2 r k) = ((1 / 2 * (1 + erfR (w (ix2 r k))) : ℝ) : EReal) := by
  have two : Ideal.ofBits .f32 0x40000000#32 = (2 : EReal) := lit_two
  rw [EReal.coe_mul, ← lit_half,
    ← cdf_branches (max (w (ix2 r k)) (-w (ix2 r k)) < Ideal.ofBits .f32 0x3F3504F3#32), ← two]
  pointwise [cdf, fill64]
  rfl

/-- The zero that fills a masked element. -/
theorem zero_at : (id (constant (F := Ideal) S_ .f32 0x00000000#32) ix0 : EReal) = 0 :=
  Ideal.ofBits_zero_f32

/-- A choice by either of two equalities. -/
theorem select_or (p q : Prop) [Decidable p] [Decidable q] [Decidable (p ∨ q)] (x y : EReal) :
    Scalar.select (IntOp.ori (BitVec.ofBool (decide p)) (BitVec.ofBool (decide q))) x y
      = if p ∨ q then x else y := by
  by_cases hp : p <;> by_cases hq : q <;> simp [hp, hq, Scalar.select, IntOp.ori]

open Classical in
theorem bins_at (lab : FVec Ideal S16384 .f32) (b : FVec Ideal S65 .f32) (r : Fin 16384)
    (k : Fin 64) :
    bins lab b (ix2 r k) = if Special (lab (ix1 r)) then (0 : EReal)
      else (mass (b (ix1 ⟨k, by omega⟩)) (b (ix1 ⟨1 + k, by omega⟩)) (lab (ix1 r)) : EReal) := by
  have e1 : extractStridedSlice S64 ![1] b slices_S65_S64_1 (ix1 k)
      = b (ix1 ⟨1 + k, by omega⟩) := by pointwise
  have e0 : extractStridedSlice S64 ![0] b slices_S65_S64_0 (ix1 k)
      = b (ix1 ⟨k, by omega⟩) := by pointwise
  have h1 := cdf_at (distance (extractStridedSlice S64 ![1] b slices_S65_S64_1) lab) r k
  have h0 := cdf_at (distance (extractStridedSlice S64 ![0] b slices_S65_S64_0) lab) r k
  rw [distance_at, e1] at h1
  rw [distance_at, e0] at h0
  unfold bins
  generalize cdf (distance (extractStridedSlice S64 ![1] b slices_S65_S64_1) lab) = c1 at *
  generalize cdf (distance (extractStridedSlice S64 ![0] b slices_S65_S64_0) lab) = c0 at *
  pointwise [markAt, column]
  rw [select_or, zero_at, h1, h0, lit_special0, lit_special1, ← EReal.coe_sub]
  refine if_congr Iff.rfl rfl (congrArg _ ?_)
  unfold mass
  ring

/-- A comparison's bit, read as an unsigned number, is one or zero. -/
theorem mark_eq (x : EReal) (b : BitVec 32) (v : ℝ) (hb : Ideal.ofBits .f32 b = (v : EReal))
    [Decidable (x = Ideal.ofBits .f32 b)] :
    (FloatOps.uitofp (F := Ideal) .f32 (BitVec.ofBool (decide (x = Ideal.ofBits .f32 b))) : EReal)
      = (hit v x : EReal) := by
  rw [hit, ← hb]
  by_cases h : x = Ideal.ofBits .f32 b
  · rw [if_pos h, decide_eq_true h]
    change (((BitVec.ofBool true).toNat : ℝ) : EReal) = _
    rw [show (BitVec.ofBool true).toNat = 1 by decide]
    norm_num
  · rw [if_neg h, decide_eq_false h]
    change (((BitVec.ofBool false).toNat : ℝ) : EReal) = _
    rw [show (BitVec.ofBool false).toNat = 0 by decide]
    norm_num

theorem marks_at0 (lab : FVec Ideal S16384 .f32) (r : Fin 16384) :
    marks lab (ix2 r 0) = (hit (-100) (lab (ix1 r)) : EReal) := by
  pointwise [marks, markAt, column]
  exact mark_eq _ _ _ lit_special0

theorem marks_at1 (lab : FVec Ideal S16384 .f32) (r : Fin 16384) :
    marks lab (ix2 r 1) = (hit (-1000) (lab (ix1 r)) : EReal) := by
  pointwise [marks, markAt, column]
  exact mark_eq _ _ _ lit_special1

theorem raw_at (lab : FVec Ideal S16384 .f32) (b : FVec Ideal S65 .f32) (r : Fin 16384)
    (j : Fin 66) :
    raw lab b (ix2 r j) = if h : j.val < 2 then marks lab (ix2 r ⟨j, h⟩)
      else bins lab b (ix2 r ⟨j - 2, by omega⟩) := by
  unfold raw
  generalize marks lab = u
  generalize bins lab b = v
  pointwise

theorem target_at (w : FVec Ideal S16384x66 .f32) (r : Fin 16384) (j : Fin 66) :
    target w (ix2 r j) = if (thr : EReal) ≤ max (w (ix2 r j)) (-w (ix2 r j)) then w (ix2 r j)
      else 0 := by
  rw [← lit_thr]
  pointwise [target]
  rw [zero_at]
  rfl

/-- Where the boundaries do not decrease the targets are the rows' weights. -/
theorem target_raw_at (lab : FVec Ideal S16384 .f32) (b : FVec Ideal S65 .f32)
    (hb : ∀ k : Fin 64, b (ix1 ⟨k, by omega⟩) ≤ b (ix1 ⟨1 + k, by omega⟩)) (r : Fin 16384)
    (j : Fin 66) :
    target (raw lab b) (ix2 r j) = (weight (fun i => b (ix1 i)) (lab (ix1 r)) j : EReal) := by
  classical
  rw [target_at]
  refine Fin.cases ?_ (fun j => Fin.cases ?_ (fun k => ?_) j) j
  · have h : raw lab b (ix2 r 0) = (hit (-100) (lab (ix1 r)) : EReal) :=
      (raw_at lab b r 0).trans (marks_at0 lab r)
    rw [h]
    exact reference_hit _ _
  · have h : raw lab b (ix2 r (Fin.succ 0)) = (hit (-1000) (lab (ix1 r)) : EReal) :=
      (raw_at lab b r 1).trans (marks_at1 lab r)
    rw [h]
    exact reference_hit _ _
  · have h : raw lab b (ix2 r k.succ.succ) = bins lab b (ix2 r k) := raw_at lab b r k.succ.succ
    rw [h, bins_at]
    exact reference_weight _ (hb k)

theorem centred_at (x : FVec Ideal S16384x66 .f32) (r : Fin 16384) (j : Fin 66) :
    centred x (ix2 r j) = x (ix2 r j) - top (fun j => x (ix2 r j)) := by
  rw [← max_eq_right (bot_le : ⊥ ≤ top (fun j => x (ix2 r j)))]
  unfold top
  rw [← lit_bot]
  pointwise [centred, column, rowMax]

theorem logp_at (y : FVec Ideal S16384x66 .f32) (r : Fin 16384) (j : Fin 66) :
    logp y (ix2 r j) = y (ix2 r j) - Ideal.log (∑ i, Ideal.exp (y (ix2 r i))) := by
  pointwise [logp, column]

theorem losses_at (p t : FVec Ideal S16384x66 .f32) (r : Fin 16384) :
    losses p t (ix1 r) = -∑ j, p (ix2 r j) * t (ix2 r j) := by
  pointwise [losses]

theorem mean_at (l : FVec Ideal S16384 .f32) (j : S1x1.Idx) :
    mean l j = (∑ r, l (ix1 r)) * ((1 / 16384 : ℝ) : EReal) := by
  rw [← Ideal.div_coe (by norm_num : (16384 : ℝ) ≠ 0), ← lit_count]
  pointwise [mean]

/-- The result: the sum of the rows' losses, scaled by the row count. -/
theorem result_at (x : FVec Ideal S16384x66 .f32) (lab : FVec Ideal S16384 .f32)
    (b : FVec Ideal S65 .f32)
    (hb : ∀ k : Fin 64, b (ix1 ⟨k, by omega⟩) ≤ b (ix1 ⟨1 + k, by omega⟩)) (j : S1x1.Idx) :
    mean (losses (logp (centred x)) (target (raw lab b))) j
      = (∑ r : Fin 16384, refRow (fun j => x (ix2 r j))
          (fun j => (weight (fun i => b (ix1 i)) (lab (ix1 r)) j : EReal)))
        * ((1 / 16384 : ℝ) : EReal) := by
  rw [mean_at]
  refine congrArg (· * ((1 / 16384 : ℝ) : EReal)) (Finset.sum_congr rfl fun r _ => ?_)
  rw [losses_at]
  simp only [logp_at, centred_at, target_raw_at lab b hb]
  rfl

end Cert.ReferenceIdeal.Reading

end
-- ==== Proof.Precondition.lean ====
/-
  The precondition read at one row and at one boundary.
-/
module

public import proofs.«01_k».proof.Pre_finite_rows_sorted_bins
public import proofs.«01_k».proof.Proof.Row
public import Idealize.ShloMosaic.Lib.Pointwise

@[expose] public section

set_option maxRecDepth 16384

noncomputable section

namespace Cert.Proof.Precondition

open Idealize.ShloMosaic Cert.Pre_finite_rows_sorted_bins

/-- The shape relations that the precondition's operations take. -/
instance facts : Cert.Pre_finite_rows_sorted_bins.Facts where
  reducesTo_S16384x66_S16384_d1 := by decide
  h_S_ := by decide
  bcast_S_S16384 := by decide
  slices_S65_S64_1 := by decide
  slices_S65_S64_0 := by decide

variable (x : FVec Ideal S16384x66 .f32) (lab : FVec Ideal S16384 .f32) (b : FVec Ideal S65 .f32)

/-- A bit that is one says that what it decides holds. -/
theorem of_bit {p : Prop} [Decidable p] (h : BitVec.ofBool (decide p) = 1#1) : p := by
  by_contra hn
  rw [decide_eq_false hn] at h
  exact absurd h (by decide)

theorem row_bit (r : Fin 16384) :
    (fn x lab b).1 (ix1 r)
      = BitVec.ofBool (decide (max (top fun j => x (ix2 r j)) (-(top fun j => x (ix2 r j))) < ⊤)) := by
  unfold top
  rw [← lit_bot, ← lit_top]
  pointwise [fn]
  rfl

theorem boundary_bit (k : Fin 64) :
    (fn x lab b).2 (ix1 k)
      = BitVec.ofBool (decide (b (ix1 ⟨k, by omega⟩) ≤ b (ix1 ⟨1 + k, by omega⟩))) := by
  pointwise [fn]

/-- Every row's largest logit is below plus infinity and above minus infinity. -/
theorem row_finite (h : (fn x lab b).1 = fun _ => 1#1) (r : Fin 16384) :
    (top fun j => x (ix2 r j)) ≠ ⊤ ∧ (top fun j => x (ix2 r j)) ≠ ⊥ := by
  have hlt := of_bit ((row_bit x lab b r).symm.trans (congrFun h (ix1 r)))
  refine ⟨((le_max_left _ _).trans_lt hlt).ne, fun hbot => ?_⟩
  have := (le_max_right _ _).trans_lt hlt
  rw [hbot] at this
  exact absurd this (by simp)

/-- The boundaries do not decrease. -/
theorem boundaries_sorted (h : (fn x lab b).2 = fun _ => 1#1) (k : Fin 64) :
    b (ix1 ⟨k, by omega⟩) ≤ b (ix1 ⟨1 + k, by omega⟩) :=
  of_bit ((boundary_bit x lab b k).symm.trans (congrFun h (ix1 k)))

end Cert.Proof.Precondition

end
-- ==== Proof.lean ====
/-
  The proof of `Cert.Claim`: the runs are the generated ones; the value equation joins what the
  kernel's array holds (`Proof/KernelValue.lean`), what the reference's result holds
  (`Proof/RefValue.lean`) and the equation of one row (`Proof/Row.lean`).
-/
module

public import proofs.«01_k».proof.Defs
public import proofs.«01_k».proof.Proof.Gen.Kernel.Frame
public import proofs.«01_k».proof.Proof.KernelValue
public import proofs.«01_k».proof.Proof.RefValue
public import proofs.«01_k».proof.Proof.Precondition
public import Idealize.ShloMosaic.Adequacy
public import Idealize.ShloMosaic.Init
public import Idealize.ShloMosaic.Lib.Claim

@[expose] public section

noncomputable section

namespace Cert.Proof

open Idealize.ShloMosaic Idealize.SL.Sem

/-- The two programs' results, from the same arguments. -/
theorem results_eq (x : FVec Ideal Cert.KernelIdeal.S16384x66 .f32)
    (lab : FVec Ideal Cert.KernelIdeal.S16384 .f32) (b : FVec Ideal Cert.KernelIdeal.S65 .f32)
    (hx : ∀ r : Fin 16384, (top fun j => x (ix2 r j)) ≠ ⊤ ∧ (top fun j => x (ix2 r j)) ≠ ⊥)
    (hb : ∀ k : Fin 64, b (ix1 ⟨k, by omega⟩) ≤ b (ix1 ⟨1 + k, by omega⟩))
    (j : Cert.KernelIdeal.S1x1.Idx) :
    Cert.ReferenceIdeal.Reading.mean (Cert.ReferenceIdeal.Reading.losses
        (Cert.ReferenceIdeal.Reading.logp (Cert.ReferenceIdeal.Reading.centred x))
        (Cert.ReferenceIdeal.Reading.target (Cert.ReferenceIdeal.Reading.raw lab b))) j
      = (∑ r, Cert.KernelIdeal.Result.rowLoss x lab b r) * ((1 / 16384 : ℝ) : EReal) := by
  refine (Cert.ReferenceIdeal.Reading.result_at x lab b hb j).trans ?_
  refine congrArg (· * ((1 / 16384 : ℝ) : EReal)) (Finset.sum_congr rfl fun r _ => ?_)
  exact (kernelRow_eq_refRow (fun j => x (ix2 r j)) (weight (fun i => b (ix1 i)) (lab (ix1 r)))
    (weight_nonneg _ _) (hx r).1 (hx r).2).symm

/-- The reference's frame: it declares no semaphore, and its run leaves the arguments unchanged. -/
theorem reference_frame : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run m ρ)

/-- The value claim. -/
theorem algebraic : Cert.algebraic_KernelIdeal_ReferenceIdeal_pre_finite_rows_sorted_bins := by
  pair_intro
  · run_from Cert.KernelIdeal.Value.run_blocks m g
  · run_from Cert.ReferenceIdeal.Value.run m' g'
    obtain ⟨h0, h1, h2⟩ := hagree c
    obtain ⟨hx, hb⟩ := hpre c
    refine (Cert.ReferenceIdeal.Reading.result_eq m' c).trans ?_
    refine Eq.trans ?_ (Cert.KernelIdeal.Result.array m c).symm
    funext j
    have key := results_eq (m (c.tc.loc Cert.KernelIdeal.main_arg0))
      (m (c.tc.loc Cert.KernelIdeal.main_arg1)) (m (c.tc.loc Cert.KernelIdeal.main_arg2))
      (Precondition.row_finite _ _ _ hx) (Precondition.boundaries_sorted _ _ _ hb) j
    rw [← h0, ← h1, ← h2] at key
    refine key.trans ?_
    rw [h0, h1, h2]

/-- Every claim of the certificate. -/
theorem claim : Cert.Claim :=
  ⟨Cert.Kernel.Gen.facts, Cert.KernelIdeal.Gen.facts, Cert.ReferenceIdeal.Gen.facts,
    Precondition.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    algebraic⟩

end Cert.Proof

end
